-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_logits [hPre_real_logits : Cert.Pre_real_logits.Facts] (m : (ℓ : Loc Cert.KernelIdeal.nD Cert.KernelIdeal.τ Cert.KernelIdeal.sig) → Buf (Elt Ideal) ℓ) : Prop :=
  ∀ c : Dev Cert.KernelIdeal.nD,
    (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_logits [hPre_real_logits : Cert.Pre_real_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_logits [hKernelIdeal : Cert.KernelIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_logits [hReferenceIdeal : Cert.ReferenceIdeal.Facts] [hPre_real_logits : Cert.Pre_real_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log_ipc" .f32 0x40317218#32 ((Real.log 16 : ℝ) : EReal)

def algebraic_KernelIdeal_ReferenceIdeal_pre_real_logits [hKernelIdeal : Cert.KernelIdeal.Facts] [hReferenceIdeal : Cert.ReferenceIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_real_logits : Cert.Pre_real_logits.Facts),
    quiescent_Kernel (hKernel := hKernel)
    ∧ quiescent_KernelIdeal (hKernelIdeal := hKernelIdeal)
    ∧ quiescent_KernelIdeal_pre_real_logits (hKernelIdeal := hKernelIdeal) (hPre_real_logits := hPre_real_logits)
    ∧ quiescent_ReferenceIdeal (hReferenceIdeal := hReferenceIdeal)
    ∧ quiescent_ReferenceIdeal_pre_real_logits (hReferenceIdeal := hReferenceIdeal) (hPre_real_logits := hPre_real_logits)
    ∧ preserves_Kernel_KernelIdeal
    ∧ algebraic_KernelIdeal_ReferenceIdeal_pre_real_logits (hKernelIdeal := hKernelIdeal) (hReferenceIdeal := hReferenceIdeal) (hPre_real_logits := hPre_real_logits)
-- ==== Pre_real_logits.lean ====
abbrev S1024x32x128 : Shape := ⟨3, ![1024, 32, 128]⟩
abbrev S1024x512x128 : Shape := ⟨3, ![1024, 512, 128]⟩
abbrev S1024x512 : Shape := ⟨2, ![1024, 512]⟩
abbrev S32x128 : Shape := ⟨2, ![32, 128]⟩
abbrev S512x128 : Shape := ⟨2, ![512, 128]⟩
abbrev S32 : Shape := ⟨1, ![32]⟩
abbrev S_ : Shape := ⟨0, ![]⟩

class Facts : Prop where
  bcast_S_S1024x32x128 : S_.BroadcastsInDim S1024x32x128 (![] : Fin 0 → Fin S1024x32x128.rank)
  bcast_S_S32x128 : S_.BroadcastsInDim S32x128 (![] : Fin 0 → Fin S32x128.rank)
  bcast_S_S32 : S_.BroadcastsInDim S32 (![] : Fin 0 → Fin S32.rank)

variable [Facts]

def fn {F : FTy → Type} [FloatOps F] (main_arg0 : FVec F S1024x32x128 .f32) (main_arg1 : FVec F S1024x512x128 .f32) (main_arg2 : IVec S1024x512 1) (main_arg3 : FVec F S32x128 .f32) (main_arg4 : FVec F S512x128 .f32) (main_arg5 : FVec F S32 .f32) : IVec S1024x32x128 1 × IVec S32x128 1 × IVec S32 1 × IVec S32 1 :=
  let main_v0 : FVec F S1024x32x128 .f32 := Host.absf main_arg0
  let main_cst : FVec F S_ .f32 := constant S_ .f32 0x7F800000#32
  let main_v1 : FVec F S1024x32x128 .f32 := broadcastInDim S1024x32x128 ![] bcast_S_S1024x32x128 main_cst
  let main_v2 : IVec S1024x32x128 1 := cmpf .olt main_v0 main_v1
  let main_v3 : FVec F S32x128 .f32 := Host.absf main_arg3
  let main_cst_0 : FVec F S_ .f32 := constant S_ .f32 0x7F800000#32
  let main_v4 : FVec F S32x128 .f32 := broadcastInDim S32x128 ![] bcast_S_S32x128 main_cst_0
  let main_v5 : IVec S32x128 1 := cmpf .olt main_v3 main_v4
  let main_cst_1 : FVec F S_ .f32 := constant S_ .f32 0x7F800000#32
  let main_v6 : FVec F S32 .f32 := broadcastInDim S32 ![] bcast_S_S32 main_cst_1
  let main_v7 : IVec S32 1 := cmpf .olt main_arg5 main_v6
  let main_cst_2 : FVec F S_ .f32 := constant S_ .f32 0x00000000#32
  let main_v8 : FVec F S32 .f32 := broadcastInDim S32 ![] bcast_S_S32 main_cst_2
  let main_v9 : IVec S32 1 := cmpf .ogt main_arg5 main_v8
  (main_v2, main_v5, main_v7, main_v9)
-- ==== Kernel.lean ====
abbrev S1024x32x128 : Shape := ⟨3, ![1024, 32, 128]⟩
abbrev S1024x512x128 : Shape := ⟨3, ![1024, 512, 128]⟩
abbrev S1024x512 : Shape := ⟨2, ![1024, 512]⟩
abbrev S32x128 : Shape := ⟨2, ![32, 128]⟩
abbrev S512x128 : Shape := ⟨2, ![512, 128]⟩
abbrev S32 : Shape := ⟨1, ![32]⟩
abbrev S1x32 : Shape := ⟨2, ![1, 32]⟩
abbrev S_ : Shape := ⟨0, ![]⟩
abbrev S32x32x128 : Shape := ⟨3, ![32, 32, 128]⟩
abbrev S32x512x128 : Shape := ⟨3, ![32, 512, 128]⟩
abbrev S32x512 : Shape := ⟨2, ![32, 512]⟩
abbrev S1x32x128 : Shape := ⟨3, ![1, 32, 128]⟩
abbrev S32x32 : Shape := ⟨2, ![32, 32]⟩
abbrev S1x512x128 : Shape := ⟨3, ![1, 512, 128]⟩
abbrev S32x32x16 : Shape := ⟨3, ![32, 32, 16]⟩
abbrev S1x32x1 : Shape := ⟨3, ![1, 32, 1]⟩
abbrev S32x32x1 : Shape := ⟨3, ![32, 32, 1]⟩
abbrev S32x1 : Shape := ⟨2, ![32, 1]⟩

abbrev nBuf : Space → Nat
  | .hbm => 13
  | .vmem => 12
  | .smem => 0
  | _ => 0

abbrev bufTy : (tb : Table) → Fin (tcTables nBuf tb) → BufTy
  | .hbm, ⟨0, _⟩ => ⟨S1024x32x128, .f32⟩
  | .hbm, ⟨1, _⟩ => ⟨S1024x512x128, .f32⟩
  | .hbm, ⟨2, _⟩ => ⟨S1024x512, .i1⟩
  | .hbm, ⟨3, _⟩ => ⟨S32x128, .f32⟩
  | .hbm, ⟨4, _⟩ => ⟨S512x128, .f32⟩
  | .hbm, ⟨5, _⟩ => ⟨S32, .f32⟩
  | .hbm, ⟨6, _⟩ => ⟨S1024x512, .f32⟩
  | .hbm, ⟨7, _⟩ => ⟨S1x32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S1024x512, .f32⟩
  | .local _ .vmem, ⟨0, _⟩ => ⟨S32x32x128, .f32⟩
  | .local _ .vmem, ⟨1, _⟩ => ⟨S32x32x128, .f32⟩
  | .local _ .vmem, ⟨2, _⟩ => ⟨S32x512x128, .f32⟩
  | .local _ .vmem, ⟨3, _⟩ => ⟨S32x512x128, .f32⟩
  | .local _ .vmem, ⟨4, _⟩ => ⟨S32x512, .f32⟩
  | .local _ .vmem, ⟨5, _⟩ => ⟨S32x512, .f32⟩
  | .local _ .vmem, ⟨6, _⟩ => ⟨S32x128, .f32⟩
  | .local _ .vmem, ⟨7, _⟩ => ⟨S512x128, .f32⟩
  | .local _ .vmem, ⟨8, _⟩ => ⟨S1x32, .f32⟩
  | .local _ .vmem, ⟨9, _⟩ => ⟨S1x32, .f32⟩
  | .local _ .vmem, ⟨10, _⟩ => ⟨S32x512, .f32⟩
  | .local _ .vmem, ⟨11, _⟩ => ⟨S32x512, .f32⟩
  | _, _ => ⟨S1024x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log_ipc" => some ((Real.log 16 : ℝ) : EReal)
  | _ => none
-- ==== ReferenceIdeal.lean ====
abbrev S1024x32x128 : Shape := ⟨3, ![1024, 32, 128]⟩
abbrev S1024x512x128 : Shape := ⟨3, ![1024, 512, 128]⟩
abbrev S1024x512 : Shape := ⟨2, ![1024, 512]⟩
abbrev S32x128 : Shape := ⟨2, ![32, 128]⟩
abbrev S512x128 : Shape := ⟨2, ![512, 128]⟩
abbrev S32 : Shape := ⟨1, ![32]⟩
abbrev S512 : Shape := ⟨1, ![512]⟩
abbrev S1x32x128 : Shape := ⟨3, ![1, 32, 128]⟩
abbrev S_ : Shape := ⟨0, ![]⟩
abbrev S1024x32 : Shape := ⟨2, ![1024, 32]⟩
abbrev S1x512x128 : Shape := ⟨3, ![1, 512, 128]⟩
abbrev S512x1 : Shape := ⟨2, ![512, 1]⟩
abbrev S1x512 : Shape := ⟨2, ![1, 512]⟩
abbrev S512x1024 : Shape := ⟨2, ![512, 1024]⟩
abbrev S32x1 : Shape := ⟨2, ![32, 1]⟩
abbrev S32x512 : Shape := ⟨2, ![32, 512]⟩
abbrev S32x512x1 : Shape := ⟨3, ![32, 512, 1]⟩
abbrev S1x512x1024 : Shape := ⟨3, ![1, 512, 1024]⟩
abbrev S32x512x1024 : Shape := ⟨3, ![32, 512, 1024]⟩
abbrev S32x1024 : Shape := ⟨2, ![32, 1024]⟩
abbrev S1024 : Shape := ⟨1, ![1024]⟩
abbrev S1024x1 : Shape := ⟨2, ![1024, 1]⟩

abbrev nBuf : Space → Nat
  | .hbm => 112
  | .vmem => 0
  | .smem => 0
  | _ => 0

abbrev bufTy : (tb : Table) → Fin (tcTables nBuf tb) → BufTy
  | .hbm, ⟨0, _⟩ => ⟨S1024x32x128, .f32⟩
  | .hbm, ⟨1, _⟩ => ⟨S1024x512x128, .f32⟩
  | .hbm, ⟨2, _⟩ => ⟨S1024x512, .i1⟩
  | .hbm, ⟨3, _⟩ => ⟨S32x128, .f32⟩
  | .hbm, ⟨4, _⟩ => ⟨S512x128, .f32⟩
  | .hbm, ⟨5, _⟩ => ⟨S32, .f32⟩
  | .hbm, ⟨6, _⟩ => ⟨S512, .i32⟩
  | .hbm, ⟨7, _⟩ => ⟨S1x32x128, .f32⟩
  | .hbm, ⟨8, _⟩ => ⟨S1024x32x128, .f32⟩
  | .hbm, ⟨9, _⟩ => ⟨S1024x32x128, .f32⟩
  | .hbm, ⟨10, _⟩ => ⟨S_, .f32⟩
  | .hbm, ⟨11, _⟩ => ⟨S1024x32, .f32⟩
  | .hbm, ⟨12, _⟩ => ⟨S1x512x128, .f32⟩
  | .hbm, ⟨13, _⟩ => ⟨S1024x512x128, .f32⟩
  | .hbm, ⟨14, _⟩ => ⟨S1024x512x128, .f32⟩
  | .hbm, ⟨15, _⟩ => ⟨S_, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .f32⟩
  | .hbm, ⟨29, _⟩ => ⟨S1x512, .f32⟩
  | .hbm, ⟨30, _⟩ => ⟨S1024x512, .f32⟩
  | .hbm, ⟨31, _⟩ => ⟨S1024x512, .f32⟩
  | .hbm, ⟨32, _⟩ => ⟨S512x1024, .f32⟩
  | .hbm, ⟨33, _⟩ => ⟨S1x512, .i32⟩
  | .hbm, ⟨34, _⟩ => ⟨S32, .i32⟩
  | .hbm, ⟨35, _⟩ => ⟨S32x1, .i32⟩
  | .hbm, ⟨36, _⟩ => ⟨S32x512, .i32⟩
  | .hbm, ⟨37, _⟩ => ⟨S32x512, .i32⟩
  | .hbm, ⟨38, _⟩ => ⟨S32x512, .i1⟩
  | .hbm, ⟨39, _⟩ => ⟨S32x512x1, .i1⟩
  | .hbm, ⟨40, _⟩ => ⟨S1x512x1024, .f32⟩
  | .hbm, ⟨41, _⟩ => ⟨S_, .f32⟩
  | .hbm, ⟨42, _⟩ => ⟨S_, .f32⟩
  | .hbm, ⟨43, _⟩ => ⟨S32x512x1024, .i1⟩
  | .hbm, ⟨44, _⟩ => ⟨S32x512x1024, .f32⟩
  | .hbm, ⟨45, _⟩ => ⟨S32x512x1024, .f32⟩
  | .hbm, ⟨46, _⟩ => ⟨S32x512x1024, .f32⟩
  | .hbm, ⟨47, _⟩ => ⟨S_, .f32⟩
  | .hbm, ⟨48, _⟩ => ⟨S32x1024, .f32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S512x1024, .f32⟩
  | .hbm, ⟨58, _⟩ => ⟨S512x1024, .f32⟩
  | .hbm, ⟨59, _⟩ => ⟨S512x1024, .f32⟩
  | .hbm, ⟨60, _⟩ => ⟨S_, .f32⟩
  | .hbm, ⟨61, _⟩ => ⟨S32x1024, .f32⟩
  | .hbm, ⟨62, _⟩ => ⟨S512x1, .i32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S1024x32, .f32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S1024x512, .f32⟩
  | .hbm, ⟨76, _⟩ => ⟨S1024x512, .f32⟩
  | .hbm, ⟨77, _⟩ => ⟨S_, .i32⟩
  | .hbm, ⟨78, _⟩ => ⟨S512, .i32⟩
  | .hbm, ⟨79, _⟩ => ⟨S512, .i1⟩
  | .hbm, ⟨80, _⟩ => ⟨S_, .i32⟩
  | .hbm, ⟨81, _⟩ => ⟨S512, .i32⟩
  | .hbm, ⟨82, _⟩ => ⟨S512, .i32⟩
  | .hbm, ⟨83, _⟩ => ⟨S512, .i32⟩
  | .hbm, ⟨84, _⟩ => ⟨S512x1, .i32⟩
  | .hbm, ⟨85, _⟩ => ⟨S1024x512, .f32⟩
  | .hbm, ⟨86, _⟩ => ⟨S1x512, .f32⟩
  | .hbm, ⟨87, _⟩ => ⟨S1024x512, .f32⟩
  | .hbm, ⟨88, _⟩ => ⟨S1024x512, .f32⟩
  | .hbm, ⟨89, _⟩ => ⟨S1024x512, .f32⟩
  | .hbm, ⟨90, _⟩ => ⟨S_, .f32⟩
  | .hbm, ⟨91, _⟩ => ⟨S1024, .f32⟩
  | .hbm, ⟨92, _⟩ => ⟨S1024x1, .f32⟩
  | .hbm, ⟨93, _⟩ => ⟨S1024x1, .f32⟩
  | .hbm, ⟨94, _⟩ => ⟨S_, .f32⟩
  | .hbm, ⟨95, _⟩ => ⟨S1024x1, .f32⟩
  | .hbm, ⟨96, _⟩ => ⟨S1024x1, .i1⟩
  | .hbm, ⟨97, _⟩ => ⟨S_, .f32⟩
  | .hbm, ⟨98, _⟩ => ⟨S_, .f32⟩
  | .hbm, ⟨99, _⟩ => ⟨S1024x1, .f32⟩
  | .hbm, ⟨100, _⟩ => ⟨S1024x1, .f32⟩
  | .hbm, ⟨101, _⟩ => ⟨S1024x512, .f32⟩
  | .hbm, ⟨102, _⟩ => ⟨S1024x512, .f32⟩
  | .hbm, ⟨103, _⟩ => ⟨S1024x512, .f32⟩
  | .hbm, ⟨104, _⟩ => ⟨S_, .f32⟩
  | .hbm, ⟨105, _⟩ => ⟨S1024, .f32⟩
  | .hbm, ⟨106, _⟩ => ⟨S1024x1, .f32⟩
  | .hbm, ⟨107, _⟩ => ⟨S1024x1, .f32⟩
  | .hbm, ⟨108, _⟩ => ⟨S1024x1, .f32⟩
  | .hbm, ⟨109, _⟩ => ⟨S1024x512, .f32⟩
  | .hbm, ⟨110, _⟩ => ⟨S1024x512, .f32⟩
  | .hbm, ⟨111, _⟩ => ⟨S1024x512, .f32⟩
  | _, _ => ⟨S1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_call0_v0 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_call2_v0 : Ref sig .tc := ⟨.hbm, 98, rfl⟩
abbrev main_call2_v1 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Proof.NestedLogit.Model.lean ====
/-
  The nested-logit probabilities as mathematics over the extended reals, in the two forms that the two programs compute.

  There are 512 items in 32 categories of 16: item `16 k + j` is item `j` of category `k`. For one data row, `y n` is the
  scaled utility of item `n`, `W k` the utility of category `k` and `lam k` the category's scale.
-/
module

public import Idealize.ShloMosaic.Lib.Pointwise

@[expose] public section

noncomputable section

namespace Cert.NestedLogit

open Idealize.ShloMosaic Idealize.ShloMosaic.Pointwise

/-- Item `j` of category `k`: item `16 k + j`. -/
def item (k : Fin 32) (j : Fin 16) : Fin 512 := ⟨k.val * 16 + j.val, by omega⟩

/-- The category of an item. -/
def cat (n : Fin 512) : Fin 32 := ⟨n.val / 16, by omega⟩

/-- The place of an item within its category. -/
def place (n : Fin 512) : Fin 16 := ⟨n.val % 16, by omega⟩

/-- Item `j` of category `k` is in category `k`. -/
@[simp] theorem cat_item (k : Fin 32) (j : Fin 16) : cat (item k j) = k := by
  apply Fin.ext; simp only [cat, item]; omega

/-- An item is the one at its place in its category. -/
@[simp] theorem item_cat_place (n : Fin 512) : item (cat n) (place n) = n := by
  apply Fin.ext; simp only [cat, item, place]; omega

/-- The greatest of finitely many extended reals. -/
def top {n : Nat} (f : Fin n → EReal) : EReal := Finset.univ.fold max ⊥ f

/-- The sum of the exponentials of `f` shifted by `m`. -/
def expSum {n : Nat} (f : Fin n → EReal) (m : EReal) : EReal := ∑ i, Ideal.exp (f i - m)

/-- The logarithm of the sum of the exponentials of `f`, shifted by the greatest of them. -/
def lse {n : Nat} (f : Fin n → EReal) : EReal := top f + Ideal.log (expSum f (top f))

/-- The inclusive value of category `k`. -/
def inclusive (y : Fin 512 → EReal) (k : Fin 32) : EReal := lse fun j => y (item k j)

/-- The logit of category `k`. -/
def logit (y : Fin 512 → EReal) (W lam : Fin 32 → EReal) (k : Fin 32) : EReal := W k + lam k * inclusive y k

/-- The log-probability of item `n` as the kernel computes it: the categories' log-sum-exp over 32 categories, plus `log 16`
    for the 16 items of each. -/
def byCategory (y : Fin 512 → EReal) (W lam : Fin 32 → EReal) (n : Fin 512) : EReal :=
  y n + ((logit y W lam (cat n) - (lse (logit y W lam) + ((Real.log 16 : ℝ) : EReal))) - inclusive y (cat n))

/-- The shift of the reference's log-sum-exp: the greatest logit where it is finite, else zero. -/
def shift (m : EReal) : EReal := if max m (-m) < ⊤ then m else 0

/-- The log-sum-exp over the 512 items, each with its category's logit, as the reference computes it. -/
def itemLse (L : Fin 32 → EReal) : EReal :=
  Ideal.log (expSum (fun n => L (cat n)) (shift (top fun n => L (cat n)))) + shift (top fun n => L (cat n))

/-- The log-probability of item `n` as the reference computes it: item within category, plus category over all items. -/
def byItem (y : Fin 512 → EReal) (W lam : Fin 32 → EReal) (n : Fin 512) : EReal :=
  (y n - inclusive y (cat n)) + (logit y W lam (cat n) - itemLse (logit y W lam))

/-! ## The inputs of the two forms, from the arguments -/

/-- The utility of a masked-out item, the f32 constant nearest `-1e20`. -/
def excluded : EReal := Ideal.ofBits .f32 0xE0AD78EC#32

/-- The utility of item `n` in row `t`: its features' product with their coefficients, masked by availability. -/
def itemUtil (x : FVec Ideal ⟨3, ![1024, 512, 128]⟩ .f32) (a : IVec ⟨2, ![1024, 512]⟩ 1) (w : FVec Ideal ⟨2, ![512, 128]⟩ .f32)
    (t : Fin 1024) (n : Fin 512) : EReal :=
  if a (ix2 t n) = 1#1 then ∑ d : Fin 128, x (ix3 t n d) * w (ix2 n d) else excluded

/-- The same, divided by its category's scale. -/
def scaled (x : FVec Ideal ⟨3, ![1024, 512, 128]⟩ .f32) (a : IVec ⟨2, ![1024, 512]⟩ 1) (w : FVec Ideal ⟨2, ![512, 128]⟩ .f32)
    (lam : FVec Ideal ⟨1, ![32]⟩ .f32) (t : Fin 1024) (n : Fin 512) : EReal :=
  Ideal.div (itemUtil x a w t n) (lam (ix1 (cat n)))

/-- The utility of category `k` in row `t`. -/
def catUtil (x : FVec Ideal ⟨3, ![1024, 32, 128]⟩ .f32) (w : FVec Ideal ⟨2, ![32, 128]⟩ .f32) (t : Fin 1024) (k : Fin 32) : EReal :=
  ∑ d : Fin 128, x (ix3 t k d) * w (ix2 k d)

end Cert.NestedLogit

end
-- ==== Proof.NestedLogit.Body.lean ====
/-
  The kernel body's values read at an index, as functions of the blocks it loads.
-/
module

public import proofs.«01_k».proof.Proof.NestedLogit.Model
public import proofs.«01_k».proof.Proof.Gen.KernelIdeal.Skeleton
public import Idealize.ShloMosaic.Lib.Pointwise

@[expose] public section

set_option maxRecDepth 16384

noncomputable section

namespace Cert.NestedLogit.Body

open Idealize.ShloMosaic Idealize.ShloMosaic.Pointwise Cert.KernelIdeal Cert.KernelIdeal.Gen

/-- The f32 pattern of minus infinity denotes `⊥`. -/
theorem ofBits_negInf : Ideal.ofBits .f32 0xFF800000#32 = ⊥ := by simp [Ideal.ofBits, Ideal.ieee]

/-- The kernel's named constant denotes the real `log 16`. -/
theorem log_ipc : Named.named (F := Ideal) κ "log_ipc" (φ := .f32) 0x40317218#32 = ((Real.log 16 : ℝ) : EReal) :=
  IdealRules.named_const.ideal_named_scalar _ _ _ _ rfl

/-- The scaled utilities of one row of a block, by item: `a` the availability as a float, `v` the reciprocals of the scales. -/
def blockScaled (x : Vec Ideal S32x512x128 .f32) (w : Vec Ideal S512x128 .f32) (a : Vec Ideal S32x512 .f32)
    (v : Vec Ideal S1x32 .f32) (r : Fin 32) (n : Fin 512) : EReal :=
  (if 0 < a (ix2 r n) then ∑ d : Fin 128, x (ix3 r n d) * w (ix2 n d) else excluded) * v (ix2 0 (cat n))

/-- The body's scaled utilities at category `k`, item `j` of it. -/
theorem scaled_at (x : Vec Ideal S32x512x128 .f32) (w : Vec Ideal S512x128 .f32) (a : Vec Ideal S32x512 .f32)
    (v : Vec Ideal S1x32 .f32) (r : Fin 32) (k : Fin 32) (j : Fin 16) :
    k0_pay2 x w a v (ix3 r k j) = blockScaled x w a v r (item k j) := by
  unfold blockScaled
  rw [cat_item]
  pointwise [k0_pay2]
  rfl

/-- The body's inclusive value of category `k`. -/
theorem inclusive_at (x : Vec Ideal S32x512x128 .f32) (w : Vec Ideal S512x128 .f32) (a : Vec Ideal S32x512 .f32)
    (v : Vec Ideal S1x32 .f32) (r : Fin 32) (k : Fin 32) :
    k0_pay3 x w a v (ix2 r k) = inclusive (blockScaled x w a v r) k := by
  pointwise [k0_pay3]
  simp only [scaled_at, ofBits_negInf]
  rfl

/-- The body's logit of category `k`. -/
theorem logit_at (x0 : Vec Ideal S32x32x128 .f32) (w0 : Vec Ideal S32x128 .f32) (x : Vec Ideal S32x512x128 .f32)
    (w : Vec Ideal S512x128 .f32) (a : Vec Ideal S32x512 .f32) (l v : Vec Ideal S1x32 .f32) (r : Fin 32) (k : Fin 32) :
    k0_pay4 x0 w0 x w a l v (ix2 r k)
      = logit (blockScaled x w a v r) (fun k => ∑ d : Fin 128, x0 (ix3 r k d) * w0 (ix2 k d)) (fun k => l (ix2 0 k)) k := by
  pointwise [k0_pay4]
  rw [inclusive_at]
  rfl

/-- What the body stores at item `n` of row `r` is the log-probability by category. -/
theorem out_at (x0 : Vec Ideal S32x32x128 .f32) (w0 : Vec Ideal S32x128 .f32) (x : Vec Ideal S32x512x128 .f32)
    (w : Vec Ideal S512x128 .f32) (a : Vec Ideal S32x512 .f32) (l v : Vec Ideal S1x32 .f32) (r : Fin 32) (n : Fin 512) :
    k0_pay1 (k0_pay2 x w a v) (k0_pay3 x w a v) (k0_pay4 x0 w0 x w a l v) (ix2 r n)
      = byCategory (blockScaled x w a v r) (fun k => ∑ d : Fin 128, x0 (ix3 r k d) * w0 (ix2 k d)) (fun k => l (ix2 0 k)) n := by
  pointwise [k0_pay1]
  simp only [scaled_at, inclusive_at, logit_at, ofBits_negInf, log_ipc]
  show blockScaled x w a v r (item (cat n) (place n)) + _ = _
  rw [item_cat_place]
  rfl

end Cert.NestedLogit.Body

end
-- ==== Proof.NestedLogit.Array.lean ====
/-
  The kernel's result array after its run, as one function of the argument arrays: at row `t`, item `n`, the log-probability
  by category of that row. Each of the 32 grid points writes back a block of 32 rows, and the blocks tile the array.
-/
module

public import proofs.«01_k».proof.Proof.NestedLogit.Body
public import proofs.«01_k».proof.Proof.Gen.KernelIdeal.Value
public import Idealize.ShloMosaic.Lib.Pipeline.ValueKit
public import Idealize.ShloMosaic.Lib.Claim

@[expose] public section

set_option maxRecDepth 16384

noncomputable section

namespace Cert.NestedLogit.Array

open Idealize.ShloMosaic Idealize.ShloMosaic.TcCoe Idealize.ShloMosaic.Pointwise Idealize.SL.Sem
open Cert.KernelIdeal Cert.KernelIdeal.Gen
open Idealize.ShloMosaic.Pipeline (Dat)

variable (m : (ℓ : Loc nD τ sig) → Buf (Elt Ideal) ℓ)

/-- The scaled utility of item `n` in row `t` as the kernel computes it: the product with the scale's reciprocal, the
    availability read back from a float. -/
def kernelScaled (x : FVec Ideal S1024x512x128 .f32) (a : IVec S1024x512 1) (w : FVec Ideal S512x128 .f32)
    (lam : FVec Ideal S32 .f32) (t : Fin 1024) (n : Fin 512) : EReal :=
  (if 0 < FloatOps.uitofp (F := Ideal) .f32 (a (ix2 t n)) then ∑ d : Fin 128, x (ix3 t n d) * w (ix2 n d) else excluded)
    * Ideal.div 1 (lam (ix1 (cat n)))

/-- The whole result array as one function of device `c`'s arguments. -/
def result (c : Dev nD) : S1024x512.Idx → EReal := fun i =>
  byCategory (kernelScaled (m ((c : Thread nD τ).loc main_arg1)) (m ((c : Thread nD τ).loc main_arg2))
      (m ((c : Thread nD τ).loc main_arg4)) (m ((c : Thread nD τ).loc main_arg5)) (i 0))
    (catUtil (m ((c : Thread nD τ).loc main_arg0)) (m ((c : Thread nD τ).loc main_arg3)) (i 0))
    (fun k => (m ((c : Thread nD τ).loc main_arg5) : S32.Idx → EReal) (ix1 k)) (i 1)

/-- Where each window's block lies at each grid point. -/
theorem idx : ∀ t : Fin cfg0.N,
    win0_0.index t = ![t.val, 0, 0] ∧ win0_1.index t = ![t.val, 0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N,
    win0_0.index t = ![t.val, 0, 0] ∧ win0_1.index t = ![t.val, 0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0])

/-- Row `r` of point `t`'s block, in the array. -/
def row (t : Fin cfg0.N) (r : Fin 32) : Fin 1024 := ⟨t.val * 32 + r.val, by have := t.isLt; have h : cfg0.N = 32 := N_0; omega⟩

/-- Point `t`'s block of the category features is rows `32 t` on of the array. -/
theorem blk0 (c : Dev nD) (t : Fin cfg0.N) (r k : Fin 32) (d : Fin 128) :
    (iblk m c 0 t : S32x32x128.Idx → EReal) (ix3 r k d)
      = (m ((c : Thread nD τ).loc main_arg0) : S1024x32x128.Idx → EReal) (ix3 (row t r) k d) := by
  blk_ext [iblk, V, idx t, row]

/-- Point `t`'s block of the item features is rows `32 t` on of the array. -/
theorem blk1 (c : Dev nD) (t : Fin cfg0.N) (r : Fin 32) (n : Fin 512) (d : Fin 128) :
    (iblk m c 1 t : S32x512x128.Idx → EReal) (ix3 r n d)
      = (m ((c : Thread nD τ).loc main_arg1) : S1024x512x128.Idx → EReal) (ix3 (row t r) n d) := by
  blk_ext [iblk, V, idx t, row]

/-- Point `t`'s block of the availability is rows `32 t` on of the array, as floats. -/
theorem blk2 (c : Dev nD) (t : Fin cfg0.N) (r : Fin 32) (n : Fin 512) :
    (iblk m c 2 t : S32x512.Idx → EReal) (ix2 r n)
      = FloatOps.uitofp (F := Ideal) .f32 ((m ((c : Thread nD τ).loc main_arg2) : S1024x512.Idx → BitVec 1) (ix2 (row t r) n)) := by
  blk_ext! [iblk, V, idx t, row]

/-- Every point's category coefficients are the whole array. -/
theorem blk3 (c : Dev nD) (t : Fin cfg0.N) (k : Fin 32) (d : Fin 128) :
    (iblk m c 3 t : S32x128.Idx → EReal) (ix2 k d)
      = (m ((c : Thread nD τ).loc main_arg3) : S32x128.Idx → EReal) (ix2 k d) := by
  blk_ext [iblk, V, idx t]

/-- Every point's item coefficients are the whole array. -/
theorem blk4 (c : Dev nD) (t : Fin cfg0.N) (n : Fin 512) (d : Fin 128) :
    (iblk m c 4 t : S512x128.Idx → EReal) (ix2 n d)
      = (m ((c : Thread nD τ).loc main_arg4) : S512x128.Idx → EReal) (ix2 n d) := by
  blk_ext [iblk, V, idx t]

/-- Every point's scales are the whole array. -/
theorem blk5 (c : Dev nD) (t : Fin cfg0.N) (k : Fin 32) :
    (iblk m c 5 t : S1x32.Idx → EReal) (ix2 0 k)
      = (m ((c : Thread nD τ).loc main_arg5) : S32.Idx → EReal) (ix1 k) := by
  blk_ext! [iblk, V, idx t]

/-- Every point's scale reciprocals are one over the scales. -/
theorem blk6 (c : Dev nD) (t : Fin cfg0.N) (k : Fin 32) :
    (iblk m c 6 t : S1x32.Idx → EReal) (ix2 0 k)
      = Ideal.div 1 ((m ((c : Thread nD τ).loc main_arg5) : S32.Idx → EReal) (ix1 k)) := by
  blk_simp [iblk, V, idx t]
  entry_read
  pointwise
  refine congrArg (Ideal.div 1) ?_
  show (m ((c : Thread nD τ).loc main_arg5) : S32.Idx → EReal) _ = _
  blk_ext [idx t]

/-- The scaled utilities of row `r` of point `t`'s block are those of the array's row. -/
theorem blockScaled_eq (c : Dev nD) (t : Fin cfg0.N) (r : Fin 32) :
    Body.blockScaled (iblk m c 1 t) (iblk m c 4 t) (iblk m c 2 t) (iblk m c 6 t) r
      = kernelScaled (m ((c : Thread nD τ).loc main_arg1)) (m ((c : Thread nD τ).loc main_arg2))
          (m ((c : Thread nD τ).loc main_arg4)) (m ((c : Thread nD τ).loc main_arg5)) (row t r) := by
  funext n
  unfold Body.blockScaled kernelScaled
  simp only [blk1, blk2, blk4, blk6]

/-- The result array after the run. -/
theorem final (c : Dev nD) : (dats m 0 c).arrAt 7 cfg0.N = result m c := by
  refine (dats m 0 c).arrAt_eq_of_covers 7 _ (by decide +kernel) fun t hf y => ?_
  blk_simp
  rw [after0_7]
  frame_out
  obtain ⟨r, n, rfl⟩ : ∃ (r : Fin 32) (n : Fin 512), y = ix2 r n := ⟨y 0, y 1, eq_ix2 y⟩
  have he : ((View.whole main_v5).slice (win0_7.rect t)).emb (ix2 r n) = (ix2 (row t r) n : S1024x512.Idx) := by
    blk_ext [idx t, row]
  rw [he]
  refine (Body.out_at _ _ _ _ _ _ _ r n).trans ?_
  rw [blockScaled_eq]
  simp only [blk0, blk3, blk5]
  rfl

end Cert.NestedLogit.Array

end
-- ==== Proof.NestedLogit.Math.lean ====
/-
  The two forms of the log-probabilities are one function wherever no category's logit is `⊤`, and no logit is `⊤` where the
  category utilities are real and each scale is positive and finite.
-/
module

public import proofs.«01_k».proof.Proof.NestedLogit.Model

@[expose] public section

noncomputable section

namespace Cert.NestedLogit

open Idealize.ShloMosaic

/-- The greatest is the supremum. -/
theorem top_eq_sup {n : Nat} (f : Fin n → EReal) : top f = Finset.univ.sup f := rfl

/-- Each value is at most the greatest. -/
theorem le_top {n : Nat} (f : Fin n → EReal) (i : Fin n) : f i ≤ top f := by
  rw [top_eq_sup]; exact Finset.le_sup (Finset.mem_univ i)

/-- The greatest of nonempty many is one of them. -/
theorem exists_top {n : Nat} (f : Fin (n + 1) → EReal) : ∃ i, f i = top f := by
  obtain ⟨i, -, h⟩ := Finset.exists_mem_eq_sup (Finset.univ : Finset (Fin (n + 1))) ⟨0, Finset.mem_univ 0⟩ f
  exact ⟨i, h.symm⟩

/-- An exponential is not negative. -/
theorem exp_nonneg (x : EReal) : 0 ≤ Ideal.exp x := by
  induction x using EReal.rec with
  | bot => simp
  | coe r => simp only [Ideal.exp_coe]; exact_mod_cast (Real.exp_pos r).le
  | top => simp

/-- The exponential of a value below `⊤` is below `⊤`. -/
theorem exp_ne_top {x : EReal} (h : x ≠ ⊤) : Ideal.exp x ≠ ⊤ := by
  induction x using EReal.rec with
  | bot => simp
  | coe r => simp only [Ideal.exp_coe]; exact EReal.coe_ne_top _
  | top => exact absurd rfl h

/-- The logarithm of a value below `⊤` is below `⊤`. -/
theorem log_ne_top {x : EReal} (h : x ≠ ⊤) : Ideal.log x ≠ ⊤ := by
  induction x using EReal.rec with
  | bot => simp
  | coe r => rw [Ideal.log_coe]; split_ifs <;> simp
  | top => exact absurd rfl h

/-- The logarithm of zero is `⊥`. -/
theorem log_zero : Ideal.log 0 = ⊥ := by
  rw [← EReal.coe_zero, Ideal.log_coe]; simp

/-- A value that is not `⊤` shifted down by a real is not `⊤`. -/
theorem sub_coe_ne_top {x : EReal} (h : x ≠ ⊤) (r : ℝ) : x - (r : EReal) ≠ ⊤ := by
  induction x using EReal.rec with
  | bot => simp
  | coe q => rw [← EReal.coe_sub]; exact EReal.coe_ne_top _
  | top => exact absurd rfl h

/-- A finite sum of extended reals none of which is `⊤` is not `⊤`. -/
theorem sum_not_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- No log-sum-exp is `⊤`. -/
theorem lse_ne_top {n : Nat} (f : Fin n → EReal) : lse f ≠ ⊤ := by
  unfold lse
  by_cases hm : top f = ⊤
  · have h0 : expSum f (top f) = 0 := by
      unfold expSum
      refine Finset.sum_eq_zero fun i _ => ?_
      rw [hm, EReal.sub_top]; rfl
    rw [h0, log_zero, EReal.add_bot]
    exact bot_ne_top
  by_cases hb : top f = ⊥
  · rw [hb, EReal.bot_add]
    exact bot_ne_top
  refine EReal.add_ne_top hm (log_ne_top (sum_not_top _ _ fun i _ => exp_ne_top ?_))
  have hi : f i ≠ ⊤ := ne_top_of_le_ne_top hm (le_top f i)
  rw [← EReal.coe_toReal hm hb]
  exact sub_coe_ne_top hi _

/-- No logit is `⊤` where the category's utility is not and its scale is positive and finite. -/
theorem logit_ne_top (y : Fin 512 → EReal) (W lam : Fin 32 → EReal) (k : Fin 32) (hW : W k ≠ ⊤) (h0 : 0 < lam k)
    (h1 : lam k < ⊤) : logit y W lam k ≠ ⊤ := by
  unfold logit
  refine EReal.add_ne_top hW ?_
  have hI : inclusive y k ≠ ⊤ := lse_ne_top _
  generalize inclusive y k = I at hI
  generalize lam k = l at h0 h1
  induction l using EReal.rec with
  | bot => simp at h0
  | top => exact absurd rfl h1.ne
  | coe l =>
    induction I using EReal.rec with
    | bot => rw [EReal.coe_mul_bot_of_pos (by exact_mod_cast h0)]; exact bot_ne_top
    | coe q => rw [← EReal.coe_mul]; exact EReal.coe_ne_top _
    | top => exact absurd rfl hI

/-- The coercion of a finite sum of reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The greatest over the items of what depends on the category alone is the greatest over the categories. -/
theorem top_cat (L : Fin 32 → EReal) : top (fun n => L (cat n)) = top L := by
  refine le_antisymm ?_ ?_
  · rw [top_eq_sup]; exact Finset.sup_le fun n _ => le_top L (cat n)
  · rw [top_eq_sup L]
    refine Finset.sup_le fun k _ => ?_
    have h := le_top (fun n => L (cat n)) (item k 0)
    rwa [cat_item] at h

/-- The real sum over the items of what depends on the category alone is sixteen times the sum over the categories. -/
theorem sum_cat (g : Fin 32 → ℝ) : ∑ n : Fin 512, g (cat n) = 16 * ∑ k, g k := by
  rw [← Equiv.sum_comp (finProdFinEquiv : Fin 32 × Fin 16 ≃ Fin (32 * 16)) fun n : Fin 512 => g (cat n), Fintype.sum_prod_type]
  have h : ∀ (k : Fin 32) (j : Fin 16), cat (finProdFinEquiv (k, j) : Fin (32 * 16)) = k := fun k j => by
    apply Fin.ext; simp only [cat, finProdFinEquiv_apply_val]; omega
  simp only [h, Finset.sum_const, Finset.card_univ, Fintype.card_fin, nsmul_eq_mul, Finset.mul_sum]
  rfl

/-- The log-sum-exp over the 512 items is that over the 32 categories plus `log 16`, where no logit is `⊤`. -/
theorem itemLse_eq (L : Fin 32 → EReal) (hL : ∀ k, L k ≠ ⊤) : itemLse L = lse L + ((Real.log 16 : ℝ) : EReal) := by
  unfold itemLse lse
  rw [top_cat]
  obtain ⟨k₀, hk₀⟩ := exists_top L
  have hle := le_top L
  have hm : top L ≠ ⊤ := hk₀ ▸ hL k₀
  generalize top L = x at hk₀ hle hm ⊢
  induction x using EReal.rec with
  | top => exact absurd rfl hm
  | bot =>
    have hs : shift ⊥ = 0 := by simp [shift]
    have h0 : expSum (fun n => L (cat n)) 0 = 0 :=
      Finset.sum_eq_zero fun n _ => by
        show Ideal.exp (L (cat n) - 0) = 0
        rw [le_bot_iff.mp (hle (cat n)), EReal.bot_sub]; rfl
    rw [hs, h0, log_zero, EReal.bot_add, EReal.bot_add, EReal.bot_add]
  | coe r =>
    have hs : shift (r : EReal) = r := by
      refine if_pos (max_lt (EReal.coe_lt_top r) ?_)
      rw [← EReal.coe_neg]; exact EReal.coe_lt_top _
    -- each exponential is a real
    obtain ⟨e, he, he0⟩ : ∃ e : Fin 32 → ℝ, (∀ k, Ideal.exp (L k - r) = (e k : EReal)) ∧ ∀ k, 0 ≤ e k := by
      refine ⟨fun k => (Ideal.exp (L k - r)).toReal, fun k => ?_, fun k => EReal.toReal_nonneg (exp_nonneg _)⟩
      exact (EReal.coe_toReal (exp_ne_top (sub_coe_ne_top (hL k) r))
        (ne_of_gt (lt_of_lt_of_le EReal.bot_lt_zero (exp_nonneg _)))).symm
    have hS : expSum L r = ((∑ k, e k : ℝ) : EReal) := by
      unfold expSum; rw [coe_sum]; exact Finset.sum_congr rfl fun k _ => he k
    have hT : expSum (fun n => L (cat n)) r = ((16 * ∑ k, e k : ℝ) : EReal) := by
      unfold expSum; rw [← sum_cat, coe_sum]; exact Finset.sum_congr rfl fun n _ => he (cat n)
    have h1 : e k₀ = 1 := by
      have h := he k₀
      rw [hk₀, ← EReal.coe_sub, sub_self, Ideal.exp_coe, Real.exp_zero] at h
      exact_mod_cast h.symm
    have hpos : 0 < ∑ k, e k :=
      lt_of_lt_of_le (h1 ▸ one_pos) (Finset.single_le_sum (fun k _ => he0 k) (Finset.mem_univ k₀))
    rw [hs, hS, hT, Ideal.log_coe, Ideal.log_coe, if_neg (not_le.mpr hpos), if_neg (not_le.mpr (by positivity)),
      Real.log_mul (by norm_num) hpos.ne', ← EReal.coe_add, ← EReal.coe_add, ← EReal.coe_add]
    congr 1
    ring

/-- The two forms of the log-probabilities agree where no logit is `⊤`. -/
theorem byItem_eq_byCategory (y : Fin 512 → EReal) (W lam : Fin 32 → EReal) (hL : ∀ k, logit y W lam k ≠ ⊤) (n : Fin 512) :
    byItem y W lam n = byCategory y W lam n := by
  unfold byItem byCategory
  rw [itemLse_eq _ hL]
  simp only [sub_eq_add_neg]
  ac_rfl

end Cert.NestedLogit

end
-- ==== Proof.NestedLogit.Segments.lean ====
/-
  The reference's table of categories, and the gathers and the segment sum it indexes, read at an index: item `n` belongs to
  category `n / 16`.
-/
module

public import proofs.«01_k».proof.Proof.NestedLogit.Math
public import proofs.«01_k».proof.Proof.Gen.ReferenceIdeal
public import Idealize.ShloMosaic.Lib.Pointwise
public import Idealize.ShloMosaic.Lib.Routing.OpsPair
public import Idealize.ShloMosaic.Lib.Routing.OpsSearch

@[expose] public section

set_option maxRecDepth 16384

noncomputable section

namespace Cert.NestedLogit.Reference

open Idealize.ShloMosaic Idealize.ShloMosaic.Pointwise Cert.ReferenceIdeal Cert.ReferenceIdeal.Gen

/-- The printed table of categories. -/
def seg : IVec S512 32 := fun i => lit0 (S512.rowMajor i)

/-- The table with negative entries wrapped round, as indexing by it prints. -/
def wrapped : IVec S512 32 :=
  select (cmpi .slt seg (broadcastInDim S512 ![] bcast_S_S512 (constantI S_ 32 0#32)))
    (addi seg (broadcastInDim S512 ![] bcast_S_S512 (constantI S_ 32 32#32))) seg

/-- The table as a column of indices. -/
def segCol : IVec S512x1 32 := broadcastInDim S512x1 ![0] bcast_S512_S512x1_0 seg

/-- The wrapped table as a column of indices. -/
def wrappedCol : IVec S512x1 32 := broadcastInDim S512x1 ![0] bcast_S512_S512x1_0 wrapped

/-- The literal's entry `n` is the word of `n / 16`. -/
theorem lit0_eq : ∀ n : Fin 512, lit0 n = BitVec.ofNat 32 (n.val / 16) := by decide +kernel

/-- Entry `n` of the table is the word of `n / 16`. -/
theorem seg_at (n : Fin 512) : seg (ix1 n) = BitVec.ofNat 32 (cat n).val := by
  have h : S512.rowMajor (ix1 n) = n := (Equiv.symm_apply_eq _).1 (Routing.symm1 (N := 512) n) |>.symm
  unfold seg
  rw [h, lit0_eq]
  rfl

/-- Wrapping leaves a category's word as it is, since it is not negative. -/
theorem wrap_word : ∀ k : Fin 32,
    Scalar.select (IntOp.cmpi .slt (BitVec.ofNat 32 k.val) 0#32) (IntOp.addi (BitVec.ofNat 32 k.val) 32#32) (BitVec.ofNat 32 k.val)
      = BitVec.ofNat 32 k.val := by decide +kernel

/-- Entry `n` of the wrapped table is the word of its category. -/
theorem wrapped_at (n : Fin 512) : wrapped (ix1 n) = BitVec.ofNat 32 (cat n).val := by
  show Scalar.select (IntOp.cmpi .slt (seg (ix1 n)) 0#32) (IntOp.addi (seg (ix1 n)) 32#32) (seg (ix1 n)) = _
  rw [seg_at, wrap_word]

/-- Row `n` of the column is the word of its category. -/
theorem segCol_at (n : Fin 512) : segCol (ix2 n 0) = BitVec.ofNat 32 (cat n).val := by
  pointwise [segCol]
  exact seg_at n

/-- Row `n` of the wrapped column is the word of its category. -/
theorem wrappedCol_at (n : Fin 512) : wrappedCol (ix2 n 0) = BitVec.ofNat 32 (cat n).val := by
  pointwise [wrappedCol]
  exact wrapped_at n

/-- A category's word read signed is the category. -/
theorem toInt_cat : ∀ k : Fin 32, (BitVec.ofNat 32 k.val).toInt = k.val := by decide +kernel

/-- The same as a natural number. -/
theorem toNat_cat (k : Fin 32) : (BitVec.ofNat 32 k.val).toInt.toNat = k.val := by rw [toInt_cat]; rfl

/-- The entries of a vector over the categories, taken at each item's category. -/
theorem gather_vec {α : Type} (x : S32.Idx → α) (n : Fin 512) :
    Host.gather gather_S32_S512x1_S512_n_0_n_n_0_1_1 x wrappedCol (ix1 n) = x (ix1 (cat n)) :=
  Routing.take_ap _ rfl rfl rfl rfl x wrappedCol n (cat n).isLt (by have := (cat n).isLt; omega) (wrappedCol_at n)

/-- The rows of a category-by-row table, taken at each item's category. -/
theorem gather_rows {α : Type} (x : S32x1024.Idx → α) (n : Fin 512) (t : Fin 1024) :
    Host.gather gather_S32x1024_S512x1_S512x1024_1_0_n_n_0_1_11024 x wrappedCol (ix2 n t) = x (ix2 (cat n) t) := by
  have hs : gather_S32x1024_S512x1_S512x1024_1_0_n_n_0_1_11024.start (ix2 n t) wrappedCol 0 = (cat n).val := by
    have e : gather_S32x1024_S512x1_S512x1024_1_0_n_n_0_1_11024.siIdx (ix2 n t) ⟨0, by decide⟩ = ix2 n 0 := by
      funext b
      fin_cases b <;> rfl
    have h : gather_S32x1024_S512x1_S512x1024_1_0_n_n_0_1_11024.start (ix2 n t) wrappedCol 0
        = min (wrappedCol (gather_S32x1024_S512x1_S512x1024_1_0_n_n_0_1_11024.siIdx (ix2 n t) ⟨0, by decide⟩)).toInt.toNat 31 := rfl
    rw [h, e, wrappedCol_at, toNat_cat]
    have := (cat n).isLt
    omega
  unfold Host.gather
  refine congrArg x (funext fun a => Fin.ext ?_)
  fin_cases a
  · exact hs
  · show 0 + 0 + t.val = t.val
    omega

/-- The columns of a row-by-category table, taken at each item's category. -/
theorem gather_cols {α : Type} (x : S1024x32.Idx → α) (t : Fin 1024) (n : Fin 512) :
    Host.gather gather_S1024x32_S512x1_S1024x512_0_1_n_n_1_1_10241 x wrappedCol (ix2 t n) = x (ix2 t (cat n)) := by
  have hs : gather_S1024x32_S512x1_S1024x512_0_1_n_n_1_1_10241.start (ix2 t n) wrappedCol 1 = (cat n).val := by
    have e : gather_S1024x32_S512x1_S1024x512_0_1_n_n_1_1_10241.siIdx (ix2 t n) ⟨0, by decide⟩ = ix2 n 0 := by
      funext b
      fin_cases b <;> rfl
    have h : gather_S1024x32_S512x1_S1024x512_0_1_n_n_1_1_10241.start (ix2 t n) wrappedCol 1
        = min (wrappedCol (gather_S1024x32_S512x1_S1024x512_0_1_n_n_1_1_10241.siIdx (ix2 t n) ⟨0, by decide⟩)).toInt.toNat 31 := rfl
    rw [h, e, wrappedCol_at, toNat_cat]
    have := (cat n).isLt
    omega
  unfold Host.gather
  refine congrArg x (funext fun a => Fin.ext ?_)
  fin_cases a
  · show 0 + 0 + t.val = t.val
    omega
  · exact hs

/-- The update at item `n`, column `s` lands at category `k`, column `t` exactly when `k` is the item's category and `s = t`. -/
theorem lands (n : Fin 512) (s : Fin 1024) (k : Fin 32) (t : Fin 1024) :
    scatter_S32x1024_S512x1_S512x1024_1_0_0_1.resultIdx? (ix2 n s) segCol = some (ix2 k t) ↔ cat n = k ∧ s = t := by
  have h0 : scatter_S32x1024_S512x1_S512x1024_1_0_0_1.start (ix2 n s) segCol 0 = ((cat n).val : Int) := by
    have e : scatter_S32x1024_S512x1_S512x1024_1_0_0_1.siIdx (ix2 n s) ⟨0, by decide⟩ = ix2 n 0 := by
      funext b
      fin_cases b <;> rfl
    have h : scatter_S32x1024_S512x1_S512x1024_1_0_0_1.start (ix2 n s) segCol 0
        = (segCol (scatter_S32x1024_S512x1_S512x1024_1_0_0_1.siIdx (ix2 n s) ⟨0, by decide⟩)).toInt := rfl
    rw [h, e, segCol_at, toInt_cat]
  have h1 : scatter_S32x1024_S512x1_S512x1024_1_0_0_1.start (ix2 n s) segCol 1 = 0 := rfl
  have w0 : scatter_S32x1024_S512x1_S512x1024_1_0_0_1.window (ix2 n s) 0 = 0 := rfl
  have w1 : scatter_S32x1024_S512x1_S512x1024_1_0_0_1.window (ix2 n s) 1 = s.val := rfl
  refine (Routing.resultIdx?_ix2 (R := 32) (C := 1024) _ _ _ k t).trans ?_
  rw [h0, h1, w0, w1, Fin.ext_iff, Fin.ext_iff]
  omega

/-- A sum over the items that keeps one category's is a sum over that category's sixteen. -/
theorem sum_of_cat (f : Fin 512 → EReal) (k : Fin 32) : (∑ n, if cat n = k then f n else 0) = ∑ j : Fin 16, f (item k j) := by
  rw [← Finset.sum_filter]
  refine (Finset.sum_nbij (fun j : Fin 16 => item k j) ?_ ?_ ?_ ?_).symm
  · intro j _; simp
  · intro j _ j' _ h
    have := congrArg Fin.val h
    simp only [item] at this
    exact Fin.ext (by omega)
  · intro n hn
    have hc : cat n = k := by simpa using hn
    exact ⟨place n, by simp, by subst hc; exact item_cat_place n⟩
  · intro j _; rfl

/-- The maximum over the items with every other category's at `-∞` is the maximum over the category's sixteen. -/
theorem fold_of_cat (f : Fin 512 → EReal) (k : Fin 32) :
    (Finset.univ.fold max ⊥ fun n => if cat n = k then f n else ⊥) = top fun j => f (item k j) := by
  refine le_antisymm ?_ ?_
  · refine Finset.fold_max_le _ |>.2 ⟨bot_le, fun n _ => ?_⟩
    by_cases h : cat n = k
    · rw [if_pos h, ← item_cat_place n, h]
      exact le_top (fun j => f (item k j)) (place n)
    · rw [if_neg h]; exact bot_le
  · refine Finset.fold_max_le _ |>.2 ⟨bot_le, fun j _ => ?_⟩
    refine Finset.le_fold_max _ |>.2 (Or.inr ⟨item k j, Finset.mem_univ _, ?_⟩)
    rw [cat_item, if_pos rfl]

/-- The segment sum: category `k`, column `t` collects its sixteen items. -/
theorem segment_sum (x : FVec Ideal S32x1024 .f32) (u : FVec Ideal S512x1024 .f32) (k : Fin 32) (t : Fin 1024) :
    Host.scatterAdd scatter_S32x1024_S512x1_S512x1024_1_0_0_1 x segCol u (ix2 k t)
      = x (ix2 k t) + ∑ j : Fin 16, u (ix2 (item k j) t) := by
  refine congrArg (x (ix2 k t) + ·) ?_
  rw [Finset.sum_filter, ValueIdx.sum_idx2]
  refine Eq.trans ?_ (sum_of_cat (fun n => u (ix2 n t)) k)
  refine Finset.sum_congr rfl fun n _ => ?_
  show (∑ s : Fin 1024, if scatter_S32x1024_S512x1_S512x1024_1_0_0_1.resultIdx? (ix2 n s) segCol = some (ix2 k t)
    then u (ix2 n s) else 0) = _
  simp only [lands]
  by_cases h : cat n = k
  · simp [h]
  · simp [h]

end Cert.NestedLogit.Reference

end
-- ==== Proof.NestedLogit.Inclusive.lean ====
/-
  The reference's inclusive values in stages, each stage read at an index.
-/
module

public import proofs.«01_k».proof.Proof.NestedLogit.Segments
public import Idealize.ShloMosaic.Lib.Pointwise

@[expose] public section

set_option maxRecDepth 16384

noncomputable section

namespace Cert.NestedLogit.Reference

open Idealize.ShloMosaic Idealize.ShloMosaic.Pointwise Cert.ReferenceIdeal Cert.ReferenceIdeal.Gen

/-- The f32 pattern of minus infinity denotes `⊥`. -/
theorem ofBits_negInf : Ideal.ofBits .f32 0xFF800000#32 = ⊥ := by simp [Ideal.ofBits, Ideal.ieee]
/-- The f32 pattern of infinity denotes `⊤`. -/
theorem ofBits_inf : Ideal.ofBits .f32 0x7F800000#32 = ⊤ := by simp [Ideal.ofBits, Ideal.ieee]

/-- The masked maxima by category of a row-by-item table. -/
def segMax (y : FVec Ideal S1024x512 .f32) : FVec Ideal S32x1024 .f32 :=
  Host.reduce FloatOps.maximumf (select
    (broadcastInDim S32x512x1024 ![0, 1, 2] bcast_S32x512x1_S32x512x1024_0_1_2 (broadcastInDim S32x512x1 ![0, 1] bcast_S32x512_S32x512x1_0_1
      (cmpi .eq (broadcastInDim S32x512 ![0, 1] bcast_S1x512_S32x512_0_1 (broadcastInDim S1x512 ![1] bcast_S512_S1x512_1 seg))
        (broadcastInDim S32x512 ![0, 1] bcast_S32x1_S32x512_0_1 (broadcastInDim S32x1 ![0] bcast_S32_S32x1_0 (iotaInDim S32 32 0))))))
    (broadcastInDim S32x512x1024 ![0, 1, 2] bcast_S1x512x1024_S32x512x1024_0_1_2 (broadcastInDim S1x512x1024 ![1, 2]
      bcast_S512x1024_S1x512x1024_1_2 (transpose S512x1024 [1, 0] y transposes_S1024x512_S512x1024_1_0)))
    (broadcastInDim S32x512x1024 ![] bcast_S_S32x512x1024 (id (constant S_ .f32 0xFF800000#32))))
    (constant S_ .f32 0xFF800000#32) reducesTo_S32x512x1024_S32x1024_d1 h_S_

/-- Two categories with the same word are the same. -/
theorem word_eq : ∀ k l : Fin 32, BitVec.ofNat 32 k.val = BitVec.ofNat 32 l.val ↔ k = l := by decide +kernel

/-- Selecting on the equality of two categories' words is selecting on the categories' equality. -/
theorem select_word (k l : Fin 32) (u v : EReal) :
    Scalar.select (IntOp.cmpi .eq (BitVec.ofNat 32 k.val) (BitVec.ofNat 32 l.val)) u v = if k = l then u else v := by
  by_cases h : k = l
  · rw [if_pos h, h]
    simp [Scalar.select, IntOp.cmpi]
  · rw [if_neg h]
    have hw := mt (word_eq k l).1 h
    have hb : (BitVec.ofNat 32 k.val == BitVec.ofNat 32 l.val) = false := beq_eq_false_iff_ne.2 hw
    simp [Scalar.select, IntOp.cmpi, hb]

/-- The masked maximum at category `k` is the greatest of its sixteen items. -/
theorem segMax_at (y : FVec Ideal S1024x512 .f32) (k : Fin 32) (t : Fin 1024) :
    segMax y (ix2 k t) = top fun j => y (ix2 t (item k j)) := by
  rw [← fold_of_cat (fun n => y (ix2 t n)) k]
  pointwise [segMax, id]
  simp only [seg_at, select_word, ofBits_negInf]

/-- The exponentials of the utilities less their category's greatest, by item. -/
def expo (y : FVec Ideal S1024x512 .f32) : FVec Ideal S512x1024 .f32 :=
  Host.exp (subf (transpose S512x1024 [1, 0] y transposes_S1024x512_S512x1024_1_0)
    (Host.gather gather_S32x1024_S512x1_S512x1024_1_0_n_n_0_1_11024 (segMax y) wrappedCol))

/-- The exponential at item `n`, shifted by the greatest of its category. -/
theorem expo_at (y : FVec Ideal S1024x512 .f32) (n : Fin 512) (t : Fin 1024) :
    expo y (ix2 n t) = Ideal.exp (y (ix2 t n) - top fun j => y (ix2 t (item (cat n) j))) := by
  rw [← segMax_at, ← gather_rows (segMax y) n t]
  unfold expo
  generalize Host.gather gather_S32x1024_S512x1_S512x1024_1_0_n_n_0_1_11024 (segMax y) wrappedCol = g
  pointwise

/-- A table of zeros, by category. -/
def zeros : FVec Ideal S32x1024 .f32 := broadcastInDim S32x1024 ![] bcast_S_S32x1024 (constant S_ .f32 0x00000000#32)

/-- Each entry of the table of zeros is zero. -/
theorem zeros_at (k : Fin 32) (t : Fin 1024) : zeros (ix2 k t) = 0 := by pointwise [zeros]

/-- The sums of those exponentials by category. -/
def expoSum (y : FVec Ideal S1024x512 .f32) : FVec Ideal S32x1024 .f32 :=
  Host.scatterAdd scatter_S32x1024_S512x1_S512x1024_1_0_0_1 zeros segCol (expo y)

/-- The sum at category `k` is that of its sixteen shifted exponentials. -/
theorem expoSum_at (y : FVec Ideal S1024x512 .f32) (k : Fin 32) (t : Fin 1024) :
    expoSum y (ix2 k t) = expSum (fun j => y (ix2 t (item k j))) (top fun j => y (ix2 t (item k j))) := by
  refine (segment_sum _ (expo y) k t).trans ?_
  rw [zeros_at, zero_add]
  unfold expSum
  refine Finset.sum_congr rfl fun j _ => ?_
  rw [expo_at, cat_item]

/-- The log-sum-exp of each category's scaled utilities, by row. -/
def incl (y : FVec Ideal S1024x512 .f32) : FVec Ideal S1024x32 .f32 :=
  transpose S1024x32 [1, 0] (addf (segMax y) (Host.log (expoSum y))) transposes_S32x1024_S1024x32_1_0

/-- A table transposed after adding to it the logarithms of another, read at an index. -/
theorem add_log_at (M E : FVec Ideal S32x1024 .f32) (t : Fin 1024) (k : Fin 32) :
    transpose S1024x32 [1, 0] (addf M (Host.log E)) transposes_S32x1024_S1024x32_1_0 (ix2 t k)
      = M (ix2 k t) + Ideal.log (E (ix2 k t)) := by
  pointwise

/-- The log-sum-exp at category `k` is its inclusive value. -/
theorem incl_at (y : FVec Ideal S1024x512 .f32) (t : Fin 1024) (k : Fin 32) :
    incl y (ix2 t k) = inclusive (fun n => y (ix2 t n)) k := by
  unfold incl inclusive lse
  refine (add_log_at (segMax y) (expoSum y) t k).trans ?_
  rw [segMax_at, expoSum_at]

/-- The inclusive value of each item's category. -/
def inclItem (y : FVec Ideal S1024x512 .f32) : FVec Ideal S1024x512 .f32 :=
  Host.gather gather_S1024x32_S512x1_S1024x512_0_1_n_n_1_1_10241 (incl y) wrappedCol

/-- At item `n` it is the inclusive value of the item's category. -/
theorem inclItem_at (y : FVec Ideal S1024x512 .f32) (t : Fin 1024) (n : Fin 512) :
    inclItem y (ix2 t n) = inclusive (fun n => y (ix2 t n)) (cat n) := by
  unfold inclItem
  rw [gather_cols, incl_at]

end Cert.NestedLogit.Reference

end
-- ==== Proof.NestedLogit.Reference.lean ====
/-
  The reference's result in stages, each stage read at an index: what it computes is the log-probability by item.
-/
module

public import proofs.«01_k».proof.Proof.NestedLogit.Inclusive
public import proofs.«01_k».proof.Proof.Gen.ReferenceIdeal.Run
public import Idealize.ShloMosaic.Lib.Pointwise

@[expose] public section

set_option maxRecDepth 16384

noncomputable section

namespace Cert.NestedLogit.Reference

open Idealize.ShloMosaic Idealize.ShloMosaic.Pointwise Cert.ReferenceIdeal Cert.ReferenceIdeal.Gen

/-- Each item's scale, over the rows. -/
def lamItem (lam : FVec Ideal S32 .f32) : FVec Ideal S1024x512 .f32 :=
  broadcastInDim S1024x512 ![0, 1] bcast_S1x512_S1024x512_0_1
    (broadcastInDim S1x512 ![1] bcast_S512_S1x512_1 (Host.gather gather_S32_S512x1_S512_n_0_n_n_0_1_1 lam wrappedCol))

/-- Item `n`'s scale is its category's. -/
theorem lamItem_at (lam : FVec Ideal S32 .f32) (t : Fin 1024) (n : Fin 512) : lamItem lam (ix2 t n) = lam (ix1 (cat n)) := by
  rw [← gather_vec lam n]
  unfold lamItem
  generalize Host.gather gather_S32_S512x1_S512_n_0_n_n_0_1_1 lam wrappedCol = g
  pointwise

/-- The utilities over their scales. -/
def util (x : FVec Ideal S1024x512x128 .f32) (a : IVec S1024x512 1) (w : FVec Ideal S512x128 .f32) (lam : FVec Ideal S32 .f32) :
    FVec Ideal S1024x512 .f32 :=
  Host.divf (select a (Host.reduceAdd (mulf x (broadcastInDim S1024x512x128 ![0, 1, 2] bcast_S1x512x128_S1024x512x128_0_1_2
      (broadcastInDim S1x512x128 ![1, 2] bcast_S512x128_S1x512x128_1_2 w))) (constant S_ .f32 0x00000000#32)
      reducesTo_S1024x512x128_S1024x512_d2 h_S_)
    (broadcastInDim S1024x512 ![] bcast_S_S1024x512 (constant S_ .f32 0xE0AD78EC#32))) (lamItem lam)

/-- The scaled utility at row `t`, item `n`. -/
theorem util_at (x : FVec Ideal S1024x512x128 .f32) (a : IVec S1024x512 1) (w : FVec Ideal S512x128 .f32) (lam : FVec Ideal S32 .f32)
    (t : Fin 1024) (n : Fin 512) : util x a w lam (ix2 t n) = scaled x a w lam t n := by
  pointwise [util]
  rw [lamItem_at]
  rfl

/-- The utilities of the categories. -/
def util0 (x : FVec Ideal S1024x32x128 .f32) (w : FVec Ideal S32x128 .f32) : FVec Ideal S1024x32 .f32 :=
  Host.reduceAdd (mulf x (broadcastInDim S1024x32x128 ![0, 1, 2] bcast_S1x32x128_S1024x32x128_0_1_2
      (broadcastInDim S1x32x128 ![1, 2] bcast_S32x128_S1x32x128_1_2 w))) (constant S_ .f32 0x00000000#32)
      reducesTo_S1024x32x128_S1024x32_d2 h_S_

/-- The utility at row `t`, category `k`. -/
theorem util0_at (x : FVec Ideal S1024x32x128 .f32) (w : FVec Ideal S32x128 .f32) (t : Fin 1024) (k : Fin 32) :
    util0 x w (ix2 t k) = catUtil x w t k := by
  pointwise [util0]
  rfl

/-- The logit of each item's category. -/
def logits (W : FVec Ideal S1024x32 .f32) (lam : FVec Ideal S32 .f32) (y : FVec Ideal S1024x512 .f32) : FVec Ideal S1024x512 .f32 :=
  addf (Host.gather gather_S1024x32_S512x1_S1024x512_0_1_n_n_1_1_10241 W wrappedCol) (mulf (lamItem lam) (inclItem y))

/-- At item `n` the logit is that of its category. -/
theorem logits_at (W : FVec Ideal S1024x32 .f32) (lam : FVec Ideal S32 .f32) (y : FVec Ideal S1024x512 .f32) (t : Fin 1024) (n : Fin 512) :
    logits W lam y (ix2 t n) = logit (fun n => y (ix2 t n)) (fun k => W (ix2 t k)) (fun k => lam (ix1 k)) (cat n) := by
  pointwise [logits]
  rw [gather_cols, lamItem_at, inclItem_at]
  rfl

/-- The greatest of each row's logits, as a column. -/
def greatest (L : FVec Ideal S1024x512 .f32) : FVec Ideal S1024x1 .f32 :=
  broadcastInDim S1024x1 ![0] bcast_S1024_S1024x1_0
    (Host.reduce FloatOps.maximumf L (constant S_ .f32 0xFF800000#32) reducesTo_S1024x512_S1024_d1 h_S_)

/-- The column's entry is the greatest of the row's logits. -/
theorem greatest_at (L : FVec Ideal S1024x512 .f32) (t : Fin 1024) : greatest L (ix2 t 0) = top fun n => L (ix2 t n) := by
  pointwise [greatest]
  rw [ofBits_negInf]
  rfl

/-- The shift of each row's log-sum-exp. -/
def shifts (L : FVec Ideal S1024x512 .f32) : FVec Ideal S1024x1 .f32 :=
  select (cmpf .olt (Host.absf (greatest L)) (broadcastInDim S1024x1 ![] bcast_S_S1024x1 (constant S_ .f32 0x7F800000#32))) (greatest L)
    (broadcastInDim S1024x1 ![] bcast_S_S1024x1 (id (constant S_ .f32 0x00000000#32)))

/-- The shift is the greatest logit where that is finite, else zero. -/
theorem shifts_at (L : FVec Ideal S1024x512 .f32) (t : Fin 1024) : shifts L (ix2 t 0) = shift (top fun n => L (ix2 t n)) := by
  pointwise [shifts, id]
  rw [greatest_at, ofBits_inf]
  rfl

/-- The log-sum-exp of each row's logits. -/
def lseItem (L : FVec Ideal S1024x512 .f32) : FVec Ideal S1024x1 .f32 :=
  addf (Host.log (broadcastInDim S1024x1 ![0] bcast_S1024_S1024x1_0
    (Host.reduceAdd (Host.exp (subf L (broadcastInDim S1024x512 ![0, 1] bcast_S1024x1_S1024x512_0_1 (shifts L))))
      (constant S_ .f32 0x00000000#32) reducesTo_S1024x512_S1024_d1 h_S_))) (shifts L)

/-- The log-sum-exp of row `t`'s logits, with that shift. -/
theorem lseItem_at (L : FVec Ideal S1024x512 .f32) (t : Fin 1024) :
    lseItem L (ix2 t 0) = Ideal.log (expSum (fun n => L (ix2 t n)) (shift (top fun n => L (ix2 t n)))) + shift (top fun n => L (ix2 t n)) := by
  pointwise [lseItem]
  simp only [shifts_at]
  rfl

/-- The reference's result in these stages. -/
def staged (y : FVec Ideal S1024x512 .f32) (L : FVec Ideal S1024x512 .f32) : FVec Ideal S1024x512 .f32 :=
  addf (subf y (inclItem y)) (subf L (broadcastInDim S1024x512 ![0, 1] bcast_S1024x1_S1024x512_0_1 (lseItem L)))

/-- The result at row `t`, item `n`, from the utilities and the logits. -/
theorem staged_at (y : FVec Ideal S1024x512 .f32) (L : FVec Ideal S1024x512 .f32) (t : Fin 1024) (n : Fin 512) :
    staged y L (ix2 t n) = (y (ix2 t n) - inclusive (fun n => y (ix2 t n)) (cat n)) + (L (ix2 t n) -
      (Ideal.log (expSum (fun n => L (ix2 t n)) (shift (top fun n => L (ix2 t n)))) + shift (top fun n => L (ix2 t n)))) := by
  pointwise [staged]
  rw [lseItem_at, inclItem_at]

/-- The reference's composed term is these stages. -/
theorem res_eq (m : (ℓ : Loc nD τ sig) → Buf (Elt Ideal) ℓ) (c : Dev nD) :
    Cert.ReferenceIdeal.Value.res_out0 m c
      = staged (util (m ((c.tc : Thread nD τ).loc main_arg1)) (m ((c.tc : Thread nD τ).loc main_arg2)) (m ((c.tc : Thread nD τ).loc main_arg4))
            (m ((c.tc : Thread nD τ).loc main_arg5)))
          (logits (util0 (m ((c.tc : Thread nD τ).loc main_arg0)) (m ((c.tc : Thread nD τ).loc main_arg3))) (m ((c.tc : Thread nD τ).loc main_arg5))
            (util (m ((c.tc : Thread nD τ).loc main_arg1)) (m ((c.tc : Thread nD τ).loc main_arg2)) (m ((c.tc : Thread nD τ).loc main_arg4))
            (m ((c.tc : Thread nD τ).loc main_arg5)))) := by
  unfold Cert.ReferenceIdeal.Value.res_out0 Cert.ReferenceIdeal.Value.res_main_v79
  rfl

/-- The reference's result at row `t`, item `n` is the log-probability by item. -/
theorem res_at (m : (ℓ : Loc nD τ sig) → Buf (Elt Ideal) ℓ) (c : Dev nD) (t : Fin 1024) (n : Fin 512) :
    (show FVec Ideal S1024x512 .f32 from Cert.ReferenceIdeal.Value.res_out0 m c) (ix2 t n)
      = byItem (scaled (m ((c.tc : Thread nD τ).loc main_arg1)) (m ((c.tc : Thread nD τ).loc main_arg2))
            (m ((c.tc : Thread nD τ).loc main_arg4)) (m ((c.tc : Thread nD τ).loc main_arg5)) t)
          (catUtil (m ((c.tc : Thread nD τ).loc main_arg0)) (m ((c.tc : Thread nD τ).loc main_arg3)) t)
          (fun k => (show FVec Ideal S32 .f32 from m ((c.tc : Thread nD τ).loc main_arg5)) (ix1 k)) n := by
  rw [res_eq]
  refine (staged_at _ _ t n).trans ?_
  simp only [logits_at, util_at, util0_at]
  rfl

end Cert.NestedLogit.Reference

end
-- ==== Proof.NestedLogit.Agree.lean ====
/-
  Under the precondition the kernel's result and the reference's are the same: the coefficients' products are real, so every
  logit is below `+∞`, and a scale is a positive real, so dividing by it is multiplying by its reciprocal.
-/
module

public import proofs.«01_k».proof.Proof.NestedLogit.Array
public import proofs.«01_k».proof.Proof.NestedLogit.Math
public import proofs.«01_k».proof.Pre_real_logits
public import Idealize.ShloMosaic.Lib.IdealHost
public import Idealize.ShloMosaic.Lib.Pointwise

@[expose] public section

set_option maxRecDepth 16384

noncomputable section

namespace Cert.NestedLogit.Agree

open Idealize.ShloMosaic Idealize.ShloMosaic.Pointwise Cert.Pre_real_logits

/-- The shape relations the precondition states. -/
instance facts : Cert.Pre_real_logits.Facts where
  bcast_S_S1024x32x128 := by decide
  bcast_S_S32x128 := by decide
  bcast_S_S32 := by decide

/-- The f32 pattern of infinity denotes `⊤`. -/
theorem ofBits_inf : Ideal.ofBits .f32 0x7F800000#32 = ⊤ := by simp [Ideal.ofBits, Ideal.ieee]
/-- The f32 pattern of zero denotes zero. -/
theorem ofBits_zero : Ideal.ofBits .f32 0x00000000#32 = 0 := by simp [Ideal.ofBits, Ideal.ieee]

/-- A less-than compare whose word is one holds. -/
theorem lt_of_word {x y : EReal} (h : Ideal.cmp .olt x y = 1#1) : x < y := by
  by_contra hn
  simp [Ideal.cmp, hn] at h

/-- A greater-than compare whose word is one holds. -/
theorem gt_of_word {x y : EReal} (h : Ideal.cmp .ogt x y = 1#1) : y < x := by
  by_contra hn
  simp [Ideal.cmp, hn] at h

/-- A value whose absolute value is below `⊤` is a real. -/
theorem real_of_abs {x : EReal} (h : max x (-x) < ⊤) : ∃ r : ℝ, x = r := by
  induction x using EReal.rec with
  | bot => simp at h
  | coe r => exact ⟨r, rfl⟩
  | top => simp at h

/-- The float of an availability bit is positive exactly when the bit is one. -/
theorem bit_pos (b : BitVec 1) : 0 < (FloatOps.uitofp (F := Ideal) .f32 b : EReal) ↔ b = 1#1 := by
  have h : b = 0#1 ∨ b = 1#1 := by revert b; decide
  show 0 < ((b.toNat : ℝ) : EReal) ↔ _
  rcases h with rfl | rfl
  · simp
  · simp

variable (x0 : FVec Ideal S1024x32x128 .f32) (x : FVec Ideal S1024x512x128 .f32) (a : IVec S1024x512 1)
  (w0 : FVec Ideal S32x128 .f32) (w : FVec Ideal S512x128 .f32) (lam : FVec Ideal S32 .f32)

/-- The category features are real. -/
theorem x0_real (h : (fn (F := Ideal) x0 x a w0 w lam).1 = fun _ => 1#1) (i : S1024x32x128.Idx) : ∃ r : ℝ, x0 i = r := by
  have e : Ideal.cmp .olt (max (x0 i) (-x0 i)) (Ideal.ofBits .f32 0x7F800000#32) = 1#1 := congrFun h i
  rw [ofBits_inf] at e
  exact real_of_abs (lt_of_word e)

/-- The category coefficients are real. -/
theorem w0_real (h : (fn (F := Ideal) x0 x a w0 w lam).2.1 = fun _ => 1#1) (i : S32x128.Idx) : ∃ r : ℝ, w0 i = r := by
  have e : Ideal.cmp .olt (max (w0 i) (-w0 i)) (Ideal.ofBits .f32 0x7F800000#32) = 1#1 := congrFun h i
  rw [ofBits_inf] at e
  exact real_of_abs (lt_of_word e)

/-- The scales are below `⊤`. -/
theorem lam_lt (h : (fn (F := Ideal) x0 x a w0 w lam).2.2.1 = fun _ => 1#1) (i : S32.Idx) : lam i < ⊤ := by
  have e : Ideal.cmp .olt (lam i) (Ideal.ofBits .f32 0x7F800000#32) = 1#1 := congrFun h i
  rw [ofBits_inf] at e
  exact lt_of_word e

/-- The scales are positive. -/
theorem lam_pos (h : (fn (F := Ideal) x0 x a w0 w lam).2.2.2 = fun _ => 1#1) (i : S32.Idx) : 0 < lam i := by
  have e : Ideal.cmp .ogt (lam i) (Ideal.ofBits .f32 0x00000000#32) = 1#1 := congrFun h i
  rw [ofBits_zero] at e
  exact gt_of_word e

/-- A category's utility is not `⊤` where its features and coefficients are real. -/
theorem catUtil_ne_top (hx : ∀ i, ∃ r : ℝ, x0 i = r) (hw : ∀ i, ∃ r : ℝ, w0 i = r) (t : Fin 1024) (k : Fin 32) :
    catUtil x0 w0 t k ≠ ⊤ := by
  refine sum_not_top _ _ fun d _ => ?_
  obtain ⟨p, hp⟩ := hx (ix3 t k d)
  obtain ⟨q, hq⟩ := hw (ix2 k d)
  rw [hp, hq, ← EReal.coe_mul]
  exact EReal.coe_ne_top _

/-- The kernel's scaled utilities are the reference's where the scales are positive. -/
theorem kernelScaled_eq (h0 : ∀ i, 0 < lam i) (t : Fin 1024) : Array.kernelScaled x a w lam t = scaled x a w lam t := by
  funext n
  unfold Array.kernelScaled scaled itemUtil
  rw [Ideal.mul_one_div (h0 (ix1 (cat n))).ne']
  simp only [bit_pos]

/-- Under the precondition the two programs' log-probabilities are the same. -/
theorem agree (h : (fn (F := Ideal) x0 x a w0 w lam).1 = (fun _ => 1#1) ∧ (fn (F := Ideal) x0 x a w0 w lam).2.1 = (fun _ => 1#1)
      ∧ (fn (F := Ideal) x0 x a w0 w lam).2.2.1 = (fun _ => 1#1) ∧ (fn (F := Ideal) x0 x a w0 w lam).2.2.2 = (fun _ => 1#1))
    (t : Fin 1024) (n : Fin 512) :
    byItem (scaled x a w lam t) (catUtil x0 w0 t) (fun k => lam (ix1 k)) n
      = byCategory (Array.kernelScaled x a w lam t) (catUtil x0 w0 t) (fun k => lam (ix1 k)) n := by
  obtain ⟨h1, h2, h3, h4⟩ := h
  rw [kernelScaled_eq x a w lam (lam_pos x0 x a w0 w lam h4) t]
  refine byItem_eq_byCategory _ _ _ (fun k => ?_) n
  exact logit_ne_top _ _ _ _ (catUtil_ne_top x0 w0 (x0_real x0 x a w0 w lam h1) (w0_real x0 x a w0 w lam h2) t k)
    (lam_pos x0 x a w0 w lam h4 _) (lam_lt x0 x a w0 w lam h3 _)

end Cert.NestedLogit.Agree

end
-- ==== Proof.lean ====
/- The proof of the claims: the runs, the idealized constant, and the agreement of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.NestedLogit.Array
public import proofs.«01_k».proof.Proof.NestedLogit.Reference
public import proofs.«01_k».proof.Proof.NestedLogit.Agree

@[expose] public section

noncomputable section

namespace Cert.Proof

open Idealize.ShloMosaic Idealize.SL.Sem Idealize.ShloMosaic.Pointwise

/-- The reference runs, leaves its arguments and ends with every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From memories with the same arguments the reference's result is the kernel's, where the precondition holds. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_real_logits m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_out0 m' c = Cert.NestedLogit.Array.result m c := by
  funext i
  obtain ⟨t, n, rfl⟩ : ∃ (t : Fin 1024) (n : Fin 512), i = ix2 t n := ⟨i 0, i 1, eq_ix2 i⟩
  refine (Cert.NestedLogit.Reference.res_at m' c t n).trans ?_
  obtain ⟨h0, h1, h2, h3, h4, h5⟩ := hagree
  rw [h0, h1, h2, h3, h4, h5]
  exact Cert.NestedLogit.Agree.agree _ _ _ _ _ _ (hpre c) t n

/-- Where the precondition holds the kernel's result is the reference's. -/
theorem values : Cert.algebraic_KernelIdeal_ReferenceIdeal_pre_real_logits (hKernelIdeal := Cert.KernelIdeal.Gen.facts)
    (hReferenceIdeal := Cert.ReferenceIdeal.Gen.facts) (hPre_real_logits := Cert.NestedLogit.Agree.facts) := by
  intro m ρ m' ρ' hpre hagree
  refine ⟨fun c => Cert.NestedLogit.Array.result m c, ?_, ?_⟩
  · exact (θ_run Cert.KernelIdeal.defs _ _).mono
      (fun r h c => ⟨(h c).1.trans (Cert.NestedLogit.Array.final m c), (h c).2⟩) (Cert.KernelIdeal.Value.run_blocks m ρ)
  · exact (θ_run Cert.ReferenceIdeal.defs _ _).mono
      (fun r h c => ⟨(h c).1.trans (results_eq m m' hpre c (hagree c)), (h c).2⟩) (Cert.ReferenceIdeal.Value.run (F := Ideal) m' ρ')

/-- All the claims. -/
theorem claim : Cert.Claim :=
  ⟨Cert.Kernel.Gen.facts, Cert.KernelIdeal.Gen.facts, Cert.ReferenceIdeal.Gen.facts, Cert.NestedLogit.Agree.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement Cert.KernelIdeal.κ "log_ipc" .f32 0x40317218#32 ((Real.log 16 : ℝ) : EReal) rfl, values⟩

end Cert.Proof

end
